-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x8192 : Shape := ⟨3, ![1, 4096, 8192]⟩
abbrev S4096x32768 : Shape := ⟨2, ![4096, 32768]⟩
abbrev S64x32768 : Shape := ⟨2, ![64, 32768]⟩
abbrev S8192x8192 : Shape := ⟨2, ![8192, 8192]⟩
abbrev S128x8192 : Shape := ⟨2, ![128, 8192]⟩
abbrev S4096x8192 : Shape := ⟨2, ![4096, 8192]⟩
abbrev S4096x16384 : Shape := ⟨2, ![4096, 16384]⟩
abbrev S1024x8192 : Shape := ⟨2, ![1024, 8192]⟩
abbrev S4096x256 : Shape := ⟨2, ![4096, 256]⟩
abbrev S64x256 : Shape := ⟨2, ![64, 256]⟩
abbrev S1024x256 : Shape := ⟨2, ![1024, 256]⟩
abbrev S4096x2x256 : Shape := ⟨3, ![4096, 2, 256]⟩
abbrev S4096x1x256 : Shape := ⟨3, ![4096, 1, 256]⟩
abbrev S8192x256 : Shape := ⟨2, ![8192, 256]⟩
abbrev S64x128x256 : Shape := ⟨3, ![64, 128, 256]⟩
abbrev S64x1x256 : Shape := ⟨3, ![64, 1, 256]⟩
abbrev S512x16384 : Shape := ⟨2, ![512, 16384]⟩
abbrev S128x256 : Shape := ⟨2, ![128, 256]⟩
abbrev S512x256 : Shape := ⟨2, ![512, 256]⟩
abbrev S8192x2x256 : Shape := ⟨3, ![8192, 2, 256]⟩
abbrev S8192x1x256 : Shape := ⟨3, ![8192, 1, 256]⟩
abbrev S16384x256 : Shape := ⟨2, ![16384, 256]⟩
abbrev S128x128x256 : Shape := ⟨3, ![128, 128, 256]⟩
abbrev S128x1x256 : Shape := ⟨3, ![128, 1, 256]⟩

abbrev nBuf : Space → Nat
  | .hbm => 12
  | .vmem => 26
  | .smem => 0
  | _ => 0

abbrev bufTy : (tb : Table) → Fin (tcTables nBuf tb) → BufTy
  | .hbm, ⟨0, _⟩ => ⟨S1x4096x8192, .f32⟩
  | .hbm, ⟨1, _⟩ => ⟨S4096x32768, .i8⟩
  | .hbm, ⟨2, _⟩ => ⟨S64x32768, .bf16⟩
  | .hbm, ⟨3, _⟩ => ⟨S64x32768, .i8⟩
  | .hbm, ⟨4, _⟩ => ⟨S8192x8192, .i8⟩
  | .hbm, ⟨5, _⟩ => ⟨S128x8192, .bf16⟩
  | .hbm, ⟨6, _⟩ => ⟨S128x8192, .i8⟩
  | .hbm, ⟨7, _⟩ => ⟨S4096x8192, .f32⟩
  | .hbm, ⟨8, _⟩ => ⟨S4096x8192, .bf16⟩
  | .hbm, ⟨9, _⟩ => ⟨S4096x16384, .bf16⟩
  | .hbm, ⟨10, _⟩ => ⟨S4096x8192, .f32⟩
  | .hbm, ⟨11, _⟩ => ⟨S1x4096x8192, .f32⟩
  | .local _ .vmem, ⟨0, _⟩ => ⟨S1024x8192, .bf16⟩
  | .local _ .vmem, ⟨1, _⟩ => ⟨S1024x8192, .bf16⟩
  | .local _ .vmem, ⟨2, _⟩ => ⟨S4096x256, .i8⟩
  | .local _ .vmem, ⟨3, _⟩ => ⟨S4096x256, .i8⟩
  | .local _ .vmem, ⟨4, _⟩ => ⟨S64x256, .bf16⟩
  | .local _ .vmem, ⟨5, _⟩ => ⟨S64x256, .bf16⟩
  | .local _ .vmem, ⟨6, _⟩ => ⟨S64x256, .i8⟩
  | .local _ .vmem, ⟨7, _⟩ => ⟨S64x256, .i8⟩
  | .local _ .vmem, ⟨8, _⟩ => ⟨S4096x256, .i8⟩
  | .local _ .vmem, ⟨9, _⟩ => ⟨S4096x256, .i8⟩
  | .local _ .vmem, ⟨10, _⟩ => ⟨S64x256, .bf16⟩
  | .local _ .vmem, ⟨11, _⟩ => ⟨S64x256, .bf16⟩
  | .local _ .vmem, ⟨12, _⟩ => ⟨S64x256, .i8⟩
  | .local _ .vmem, ⟨13, _⟩ => ⟨S64x256, .i8⟩
  | .local _ .vmem, ⟨14, _⟩ => ⟨S1024x256, .bf16⟩
  | .local _ .vmem, ⟨15, _⟩ => ⟨S1024x256, .bf16⟩
  | .local _ .vmem, ⟨16, _⟩ => ⟨S512x16384, .bf16⟩
  | .local _ .vmem, ⟨17, _⟩ => ⟨S512x16384, .bf16⟩
  | .local _ .vmem, ⟨18, _⟩ => ⟨S8192x256, .i8⟩
  | .local _ .vmem, ⟨19, _⟩ => ⟨S8192x256, .i8⟩
  | .local _ .vmem, ⟨20, _⟩ => ⟨S128x256, .bf16⟩
  | .local _ .vmem, ⟨21, _⟩ => ⟨S128x256, .bf16⟩
  | .local _ .vmem, ⟨22, _⟩ => ⟨S128x256, .i8⟩
  | .local _ .vmem, ⟨23, _⟩ => ⟨S128x256, .i8⟩
  | .local _ .vmem, ⟨24, _⟩ => ⟨S512x256, .f32⟩
  | .local _ .vmem, ⟨25, _⟩ => ⟨S512x256, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x256 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S1x4096x8192 : Shape := ⟨3, ![1, 4096, 8192]⟩
abbrev S4096x32768 : Shape := ⟨2, ![4096, 32768]⟩
abbrev S64x32768 : Shape := ⟨2, ![64, 32768]⟩
abbrev S8192x8192 : Shape := ⟨2, ![8192, 8192]⟩
abbrev S128x8192 : Shape := ⟨2, ![128, 8192]⟩
abbrev S_ : Shape := ⟨0, ![]⟩
abbrev S4096x1x32768 : Shape := ⟨3, ![4096, 1, 32768]⟩
abbrev S4096x2x32768 : Shape := ⟨3, ![4096, 2, 32768]⟩
abbrev S8192x32768 : Shape := ⟨2, ![8192, 32768]⟩
abbrev S64x128x32768 : Shape := ⟨3, ![64, 128, 32768]⟩
abbrev S64x1x32768 : Shape := ⟨3, ![64, 1, 32768]⟩
abbrev S1x4096x32768 : Shape := ⟨3, ![1, 4096, 32768]⟩
abbrev S1x4096x16384 : Shape := ⟨3, ![1, 4096, 16384]⟩
abbrev S8192x1x8192 : Shape := ⟨3, ![8192, 1, 8192]⟩
abbrev S8192x2x8192 : Shape := ⟨3, ![8192, 2, 8192]⟩
abbrev S16384x8192 : Shape := ⟨2, ![16384, 8192]⟩
abbrev S128x128x8192 : Shape := ⟨3, ![128, 128, 8192]⟩
abbrev S128x1x8192 : Shape := ⟨3, ![128, 1, 8192]⟩

abbrev nBuf : Space → Nat
  | .hbm => 67
  | .vmem => 0
  | .smem => 0
  | _ => 0

abbrev bufTy : (tb : Table) → Fin (tcTables nBuf tb) → BufTy
  | .hbm, ⟨0, _⟩ => ⟨S1x4096x8192, .f32⟩
  | .hbm, ⟨1, _⟩ => ⟨S4096x32768, .i8⟩
  | .hbm, ⟨2, _⟩ => ⟨S64x32768, .bf16⟩
  | .hbm, ⟨3, _⟩ => ⟨S64x32768, .i8⟩
  | .hbm, ⟨4, _⟩ => ⟨S8192x8192, .i8⟩
  | .hbm, ⟨5, _⟩ => ⟨S128x8192, .bf16⟩
  | .hbm, ⟨6, _⟩ => ⟨S128x8192, .i8⟩
  | .hbm, ⟨7, _⟩ => ⟨S4096x32768, .i32⟩
  | .hbm, ⟨8, _⟩ => ⟨S_, .i32⟩
  | .hbm, ⟨9, _⟩ => ⟨S4096x32768, .i32⟩
  | .hbm, ⟨10, _⟩ => ⟨S4096x32768, .i32⟩
  | .hbm, ⟨11, _⟩ => ⟨S_, .i32⟩
  | .hbm, ⟨12, _⟩ => ⟨S4096x32768, .i32⟩
  | .hbm, ⟨13, _⟩ => ⟨S4096x32768, .i32⟩
  | .hbm, ⟨14, _⟩ => ⟨S4096x1x32768, .i32⟩
  | .hbm, ⟨15, _⟩ => ⟨S4096x1x32768, .i32⟩
  | .hbm, ⟨16, _⟩ => ⟨S4096x2x32768, .i32⟩
  | .hbm, ⟨17, _⟩ => ⟨S8192x32768, .i32⟩
  | .hbm, ⟨18, _⟩ => ⟨S64x128x32768, .i32⟩
  | .hbm, ⟨19, _⟩ => ⟨S64x128x32768, .bf16⟩
  | .hbm, ⟨20, _⟩ => ⟨S64x32768, .i32⟩
  | .hbm, ⟨21, _⟩ => ⟨S64x32768, .bf16⟩
  | .hbm, ⟨22, _⟩ => ⟨S64x1x32768, .bf16⟩
  | .hbm, ⟨23, _⟩ => ⟨S64x128x32768, .bf16⟩
  | .hbm, ⟨24, _⟩ => ⟨S64x128x32768, .bf16⟩
  | .hbm, ⟨25, _⟩ => ⟨S64x1x32768, .bf16⟩
  | .hbm, ⟨26, _⟩ => ⟨S64x128x32768, .bf16⟩
  | .hbm, ⟨27, _⟩ => ⟨S64x128x32768, .bf16⟩
  | .hbm, ⟨28, _⟩ => ⟨S8192x32768, .bf16⟩
  | .hbm, ⟨29, _⟩ => ⟨S1x4096x8192, .bf16⟩
  | .hbm, ⟨30, _⟩ => ⟨S1x4096x32768, .f32⟩
  | .hbm, ⟨31, _⟩ => ⟨S1x4096x16384, .f32⟩
  | .hbm, ⟨32, _⟩ => ⟨S1x4096x16384, .f32⟩
  | .hbm, ⟨33, _⟩ => ⟨S1x4096x16384, .f32⟩
  | .hbm, ⟨34, _⟩ => ⟨S1x4096x16384, .f32⟩
  | .hbm, ⟨35, _⟩ => ⟨S_, .f32⟩
  | .hbm, ⟨36, _⟩ => ⟨S1x4096x16384, .f32⟩
  | .hbm, ⟨37, _⟩ => ⟨S1x4096x16384, .f32⟩
  | .hbm, ⟨38, _⟩ => ⟨S_, .f32⟩
  | .hbm, ⟨39, _⟩ => ⟨S1x4096x16384, .f32⟩
  | .hbm, ⟨40, _⟩ => ⟨S1x4096x16384, .f32⟩
  | .hbm, ⟨41, _⟩ => ⟨S1x4096x16384, .f32⟩
  | .hbm, ⟨42, _⟩ => ⟨S1x4096x16384, .f32⟩
  | .hbm, ⟨43, _⟩ => ⟨S1x4096x16384, .bf16⟩
  | .hbm, ⟨44, _⟩ => ⟨S8192x8192, .i32⟩
  | .hbm, ⟨45, _⟩ => ⟨S_, .i32⟩
  | .hbm, ⟨46, _⟩ => ⟨S8192x8192, .i32⟩
  | .hbm, ⟨47, _⟩ => ⟨S8192x8192, .i32⟩
  | .hbm, ⟨48, _⟩ => ⟨S_, .i32⟩
  | .hbm, ⟨49, _⟩ => ⟨S8192x8192, .i32⟩
  | .hbm, ⟨50, _⟩ => ⟨S8192x8192, .i32⟩
  | .hbm, ⟨51, _⟩ => ⟨S8192x1x8192, .i32⟩
  | .hbm, ⟨52, _⟩ => ⟨S8192x1x8192, .i32⟩
  | .hbm, ⟨53, _⟩ => ⟨S8192x2x8192, .i32⟩
  | .hbm, ⟨54, _⟩ => ⟨S16384x8192, .i32⟩
  | .hbm, ⟨55, _⟩ => ⟨S128x128x8192, .i32⟩
  | .hbm, ⟨56, _⟩ => ⟨S128x128x8192, .bf16⟩
  | .hbm, ⟨57, _⟩ => ⟨S128x8192, .i32⟩
  | .hbm, ⟨58, _⟩ => ⟨S128x8192, .bf16⟩
  | .hbm, ⟨59, _⟩ => ⟨S128x1x8192, .bf16⟩
  | .hbm, ⟨60, _⟩ => ⟨S128x128x8192, .bf16⟩
  | .hbm, ⟨61, _⟩ => ⟨S128x128x8192, .bf16⟩
  | .hbm, ⟨62, _⟩ => ⟨S128x1x8192, .bf16⟩
  | .hbm, ⟨63, _⟩ => ⟨S128x128x8192, .bf16⟩
  | .hbm, ⟨64, _⟩ => ⟨S128x128x8192, .bf16⟩
  | .hbm, ⟨65, _⟩ => ⟨S16384x8192, .bf16⟩
  | .hbm, ⟨66, _⟩ => ⟨S1x4096x8192, .f32⟩
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Proof.KRun.lean ====
module

public import proofs.«01_k».proof.Proof.Gen.KernelIdeal.Frame

/-! The kernel's run with its result: the generated frame certificate's launch, its last state read at the result array
    as well as at the arguments. -/

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents, the arguments as launched and
    every semaphore counter at zero. -/
theorem kernel_run : θ_run defs (onTc (τ := τ) (main (F := F))) ⟨m, fun _ => 0, ρ⟩ (fun r => (∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

end Cert.KernelIdeal.Value
end
-- ==== Proof.Spec.lean ====
module

public import Idealize.ShloMosaic.Lib.Pointwise

/-! The gated block written over its argument arrays as plain sums: two packed 4-bit numbers to a byte, a group of 128
    input rows to a scale and a zero point, two projections, the gate, and the projection down. Both programs are shown
    to compute it. -/

@[expose] public section

set_option maxRecDepth 16384

noncomputable section

namespace Cert.Proof.Spec

open Idealize.ShloMosaic Idealize.ShloMosaic.TcCoe Idealize.SL.Sem

/-- The 4-bit number of row `k` in the byte that holds rows `2 * (k / 2)` (low half) and `2 * (k / 2) + 1` (high half). -/
def nib (b : BitVec 8) (k : ℕ) : ℕ := if k % 2 = 0 then b.toNat % 16 else b.toNat / 16

/-- The dequantised weight of row `k`: its 4-bit number in the byte `b`, less the zero point `z`, times the scale `s`. -/
def weight (b z : BitVec 8) (s : EReal) (k : ℕ) : EReal := (((nib b k : ℝ) : EReal) - ((z.toNat : ℝ) : EReal)) * s

/-- What the kernel's shift and mask give at row `k`, read signed, is the 4-bit number. -/
theorem kernel_nib (b : BitVec 8) (k : ℕ) :
    (IntOp.andi (IntOp.shrsi .vector (BitVec.setWidth 32 b) (IntOp.muli (4#32) (BitVec.ofNat 32 (k % 2)))) 15#32).toInt
      = (nib b k : ℤ) := by
  have h : ∀ b : BitVec 8,
      (IntOp.andi (IntOp.shrsi .vector (BitVec.setWidth 32 b) (IntOp.muli (4#32) (BitVec.ofNat 32 0))) 15#32).toInt
        = ((b.toNat % 16 : ℕ) : ℤ)
      ∧ (IntOp.andi (IntOp.shrsi .vector (BitVec.setWidth 32 b) (IntOp.muli (4#32) (BitVec.ofNat 32 1))) 15#32).toInt
        = ((b.toNat / 16 : ℕ) : ℤ) := by decide +kernel
  unfold nib
  rcases Nat.mod_two_eq_zero_or_one k with hk | hk
  · rw [hk, if_pos rfl]; exact (h b).1
  · rw [hk, if_neg one_ne_zero]; exact (h b).2

/-- What the reference's mask (even rows) and shift (odd rows) give, read signed, is the 4-bit number. -/
theorem ref_nib (b : BitVec 8) (k : ℕ) :
    (if k % 128 % 2 < 1 then IntOp.andi (BitVec.setWidth 32 b) 15#32
      else IntOp.shrsi .host (BitVec.setWidth 32 b) 4#32).toInt = (nib b k : ℤ) := by
  have h : ∀ b : BitVec 8,
      (IntOp.andi (BitVec.setWidth 32 b) 15#32).toInt = ((b.toNat % 16 : ℕ) : ℤ)
      ∧ (IntOp.shrsi .host (BitVec.setWidth 32 b) 4#32).toInt = ((b.toNat / 16 : ℕ) : ℤ) := by decide +kernel
  have hk : k % 128 % 2 = k % 2 := by omega
  unfold nib
  rw [hk]
  rcases Nat.mod_two_eq_zero_or_one k with hk | hk
  · rw [hk, if_pos one_pos, if_pos rfl]; exact (h b).1
  · rw [hk, if_neg (lt_irrefl 1), if_neg one_ne_zero]; exact (h b).2

/-- A byte widened to a 32-bit word and read signed is the byte read unsigned. -/
theorem toInt_byte (z : BitVec 8) : (BitVec.setWidth 32 z).toInt = (z.toNat : ℤ) := by
  have h : ∀ z : BitVec 8, (BitVec.setWidth 32 z).toInt = (z.toNat : ℤ) := by decide +kernel
  exact h z

/-- The kernel's spelling of a dequantised weight. -/
theorem kernel_weight (b z : BitVec 8) (s : EReal) (k : ℕ) :
    (((FloatOps.sitofp (F := Ideal) .bf16
        (IntOp.andi (IntOp.shrsi .vector (BitVec.setWidth 32 b) (IntOp.muli (4#32) (BitVec.ofNat 32 (k % 2)))) 15#32) : EReal)
      - (FloatOps.uitofp (F := Ideal) .bf16 z : EReal)) * s : EReal) = weight b z s k := by
  show ((((IntOp.andi (IntOp.shrsi .vector (BitVec.setWidth 32 b) (IntOp.muli (4#32) (BitVec.ofNat 32 (k % 2)))) 15#32).toInt
    : ℝ) : EReal) - ((z.toNat : ℝ) : EReal)) * s = weight b z s k
  rw [kernel_nib, Int.cast_natCast]
  rfl

/-- The reference's spelling of a dequantised weight. -/
theorem ref_weight (b z : BitVec 8) (s : EReal) (k : ℕ) :
    (((FloatOps.sitofp (F := Ideal) .bf16
        (if k % 128 % 2 < 1 then IntOp.andi (BitVec.setWidth 32 b) 15#32
          else IntOp.shrsi .host (BitVec.setWidth 32 b) 4#32) : EReal)
      - (FloatOps.sitofp (F := Ideal) .bf16 (BitVec.setWidth 32 z) : EReal)) * s : EReal) = weight b z s k := by
  show ((((if k % 128 % 2 < 1 then IntOp.andi (BitVec.setWidth 32 b) 15#32
          else IntOp.shrsi .host (BitVec.setWidth 32 b) 4#32).toInt : ℝ) : EReal)
    - (((BitVec.setWidth 32 z).toInt : ℝ) : EReal)) * s = weight b z s k
  rw [ref_nib, toInt_byte, Int.cast_natCast, Int.cast_natCast]
  rfl

/-- The product of row `r` of the activations and column `f` of the dequantised gate and up weights. -/
def proj (X : FVec Ideal ⟨2, ![4096, 8192]⟩ .bf16) (P : Vec Ideal ⟨2, ![4096, 32768]⟩ .i8) (S : FVec Ideal ⟨2, ![64, 32768]⟩ .bf16)
    (Z : Vec Ideal ⟨2, ![64, 32768]⟩ .i8) (r : Fin 4096) (f : Fin 32768) : EReal :=
  ∑ k : Fin 8192, X (ix2 r k) * weight (P (ix2 ⟨k / 2, by omega⟩ f)) (Z (ix2 ⟨k / 128, by omega⟩ f)) (S (ix2 ⟨k / 128, by omega⟩ f)) k

/-- The hidden activation of row `r` and feature `f`: gate times its logistic function, times up; feature `f`'s gate is
    column `f` of the fused weights, its up column `16384 + f`. -/
def hid (X : FVec Ideal ⟨2, ![4096, 8192]⟩ .bf16) (P : Vec Ideal ⟨2, ![4096, 32768]⟩ .i8) (S : FVec Ideal ⟨2, ![64, 32768]⟩ .bf16)
    (Z : Vec Ideal ⟨2, ![64, 32768]⟩ .i8) : FVec Ideal ⟨2, ![4096, 16384]⟩ .bf16 := fun i =>
  let r : Fin 4096 := i 0
  let f : Fin 16384 := i 1
  proj X P S Z r ⟨f, by omega⟩ * Ideal.logistic (proj X P S Z r ⟨f, by omega⟩) * proj X P S Z r ⟨16384 + f, by omega⟩

/-- The product of the hidden activations and the dequantised weights of the projection down. -/
def down (H : FVec Ideal ⟨2, ![4096, 16384]⟩ .bf16) (P : Vec Ideal ⟨2, ![8192, 8192]⟩ .i8) (S : FVec Ideal ⟨2, ![128, 8192]⟩ .bf16)
    (Z : Vec Ideal ⟨2, ![128, 8192]⟩ .i8) : FVec Ideal ⟨2, ![4096, 8192]⟩ .f32 := fun i =>
  let r : Fin 4096 := i 0
  let n : Fin 8192 := i 1
  (∑ k : Fin 16384, H (ix2 r k) * weight (P (ix2 ⟨k / 2, by omega⟩ n)) (Z (ix2 ⟨k / 128, by omega⟩ n)) (S (ix2 ⟨k / 128, by omega⟩ n)) k : EReal)

end Cert.Proof.Spec

end
-- ==== Proof.GateUp.lean ====
module

public import proofs.«01_k».proof.Proof.Spec
public import proofs.«01_k».proof.Proof.Gen.KernelIdeal.Frame
public import Idealize.ShloMosaic.Lib.Pipeline.ValueKit

/-! The first kernel call leaves the hidden activations of its argument arrays in its result array. -/

@[expose] public section

set_option maxRecDepth 16384

noncomputable section

namespace Cert.KernelIdeal.Value

open Idealize.ShloMosaic Idealize.ShloMosaic.TcCoe Idealize.SL.Sem
open Cert.KernelIdeal Cert.KernelIdeal.Gen Cert.Proof.Spec

/-- One column of a block's product with its dequantised weights, over the staged blocks. -/
def blkProj (x : FVec Ideal S1024x8192 .bf16) (p : Vec Ideal S4096x256 .i8) (s : FVec Ideal S64x256 .bf16)
    (z : Vec Ideal S64x256 .i8) (r : Fin 1024) (n : Fin 256) : EReal :=
  ∑ k : Fin 8192, x (ix2 r k) * weight (p (ix2 ⟨k / 2, by omega⟩ n)) (z (ix2 ⟨k / 128, by omega⟩ n)) (s (ix2 ⟨k / 128, by omega⟩ n)) k

/-- What the body stores, read at an element of the block. -/
theorem pay_at (x : FVec Ideal S1024x8192 .bf16) (p : Vec Ideal S4096x256 .i8) (s : FVec Ideal S64x256 .bf16)
    (z : Vec Ideal S64x256 .i8) (p' : Vec Ideal S4096x256 .i8) (s' : FVec Ideal S64x256 .bf16) (z' : Vec Ideal S64x256 .i8)
    (r : Fin 1024) (n : Fin 256) :
    k0_pay1 (F := Ideal) (k0_pay2 x) (k0_pay3 x p s z) s' z' (k0_pay4 p') (ix2 r n)
      = blkProj x p s z r n * Ideal.logistic (blkProj x p s z r n) * blkProj x p' s' z' r n := by
  pointwise [k0_pay1, k0_pay2, k0_pay3, k0_pay4]
  simp only [kernel_weight]
  rfl

/-- Each window's block index at a grid point: row block `t / 64`, column block `t % 64`, the up columns 64 blocks on. -/
theorem idx0 : ∀ t : Fin cfg0.N, win0_0.index t = ![t.val / 64, 0] ∧ win0_1.index t = ![0, t.val % 64]
    ∧ win0_2.index t = ![0, t.val % 64] ∧ win0_3.index t = ![0, t.val % 64] ∧ win0_4.index t = ![0, 64 + t.val % 64]
    ∧ win0_5.index t = ![0, 64 + t.val % 64] ∧ win0_6.index t = ![0, 64 + t.val % 64]
    ∧ win0_7.index t = ![t.val / 64, t.val % 64] ∧ t.val / 64 < 4 :=
  (by decide +kernel : ∀ t : Fin grid0.N, _)

variable (V : (c : Dev nD) → (b : Ref sig .tc) → Buf (Elt Ideal) ((c : Thread nD τ).loc b))

/-- The gate's column of a block is the fused weights' column at the block's place. -/
theorem blkProj_gate (c : Dev nD) (t : Fin cfg0.N) (r : Fin 1024) (n : Fin 256) (R : Fin 4096) (f : Fin 32768)
    (hR : R.val = t.val / 64 * 1024 + r) (hf : f.val = t.val % 64 * 256 + n) :
    blkProj (iblk0 V c 0 t) (iblk0 V c 1 t) (iblk0 V c 2 t) (iblk0 V c 3 t) r n
      = proj (V c main_v1) (V c main_arg1) (V c main_arg2) (V c main_arg3) R f := by
  unfold blkProj proj
  refine Finset.sum_congr rfl fun k _ => ?_
  have hx : iblk0 V c 0 t (ix2 r k) = V c main_v1 (ix2 R k) := by blk_ext [iblk0, idx0 t, hR]
  have hp : iblk0 V c 1 t (ix2 ⟨k / 2, by omega⟩ n) = V c main_arg1 (ix2 ⟨k / 2, by omega⟩ f) := by blk_ext [iblk0, idx0 t, hf]
  have hs : iblk0 V c 2 t (ix2 ⟨k / 128, by omega⟩ n) = V c main_arg2 (ix2 ⟨k / 128, by omega⟩ f) := by blk_ext [iblk0, idx0 t, hf]
  have hz : iblk0 V c 3 t (ix2 ⟨k / 128, by omega⟩ n) = V c main_arg3 (ix2 ⟨k / 128, by omega⟩ f) := by blk_ext [iblk0, idx0 t, hf]
  exact congr (congrArg HMul.hMul hx) (congrFun (congr (congr (congrArg weight hp) hz) hs) _)

/-- The up column of a block is the fused weights' column at the block's place. -/
theorem blkProj_up (c : Dev nD) (t : Fin cfg0.N) (r : Fin 1024) (n : Fin 256) (R : Fin 4096) (f : Fin 32768)
    (hR : R.val = t.val / 64 * 1024 + r) (hf : f.val = (64 + t.val % 64) * 256 + n) :
    blkProj (iblk0 V c 0 t) (iblk0 V c 4 t) (iblk0 V c 5 t) (iblk0 V c 6 t) r n
      = proj (V c main_v1) (V c main_arg1) (V c main_arg2) (V c main_arg3) R f := by
  unfold blkProj proj
  refine Finset.sum_congr rfl fun k _ => ?_
  have hx : iblk0 V c 0 t (ix2 r k) = V c main_v1 (ix2 R k) := by blk_ext [iblk0, idx0 t, hR]
  have hp : iblk0 V c 4 t (ix2 ⟨k / 2, by omega⟩ n) = V c main_arg1 (ix2 ⟨k / 2, by omega⟩ f) := by blk_ext [iblk0, idx0 t, hf]
  have hs : iblk0 V c 5 t (ix2 ⟨k / 128, by omega⟩ n) = V c main_arg2 (ix2 ⟨k / 128, by omega⟩ f) := by blk_ext [iblk0, idx0 t, hf]
  have hz : iblk0 V c 6 t (ix2 ⟨k / 128, by omega⟩ n) = V c main_arg3 (ix2 ⟨k / 128, by omega⟩ f) := by blk_ext [iblk0, idx0 t, hf]
  exact congr (congrArg HMul.hMul hx) (congrFun (congr (congr (congrArg weight hp) hz) hs) _)

/-- What the body stores at element `y` of point `t`'s block is the hidden activation at the element's place. -/
theorem point0 (c : Dev nD) (t : Fin cfg0.N) (y : S1024x256.Idx) :
    k0_pay1 (F := Ideal) (k0_pay2 (iblk0 V c 0 t)) (k0_pay3 (iblk0 V c 0 t) (iblk0 V c 1 t) (iblk0 V c 2 t) (iblk0 V c 3 t))
        (iblk0 V c 5 t) (iblk0 V c 6 t) (k0_pay4 (iblk0 V c 4 t)) y
      = hid (V c main_v1) (V c main_arg1) (V c main_arg2) (V c main_arg3) (((cfg0.win 7).blk t).view.emb y) := by
  obtain ⟨r, n, rfl⟩ : ∃ (r : Fin 1024) (n : Fin 256), y = ix2 r n := ⟨y 0, y 1, eq_ix2 y⟩
  refine (pay_at _ _ _ _ _ _ _ r n).trans ?_
  obtain ⟨-, -, -, -, -, -, -, h7, hlt⟩ := idx0 t
  have e0 : ((((cfg0.win 7).blk t).view.emb (ix2 r n)) 0 : ℕ) = t.val / 64 * 1024 + r := by blk_simp [h7]
  have e1 : ((((cfg0.win 7).blk t).view.emb (ix2 r n)) 1 : ℕ) = t.val % 64 * 256 + n := by blk_simp [h7]
  have A := blkProj_gate V c t r n ((((cfg0.win 7).blk t).view.emb (ix2 r n)) 0)
    ⟨((((cfg0.win 7).blk t).view.emb (ix2 r n)) 1 : ℕ), by rw [e1]; omega⟩ e0 e1
  have B := blkProj_up V c t r n ((((cfg0.win 7).blk t).view.emb (ix2 r n)) 0)
    ⟨16384 + ((((cfg0.win 7).blk t).view.emb (ix2 r n)) 1 : ℕ), by rw [e1]; omega⟩ e0
    (by show 16384 + ((((cfg0.win 7).blk t).view.emb (ix2 r n)) 1 : ℕ) = _; rw [e1]; omega)
  rw [A, B]
  rfl

/-- The hidden array after the first call. -/
theorem final0 (c : Dev nD) : (dat0 V c).arrAt 7 cfg0.N
    = hid (V c main_v1) (V c main_arg1) (V c main_arg2) (V c main_arg3) := by
  refine (dat0 V c).arrAt_eq_of_covers 7 _ (by decide +kernel) fun t _ y => ?_
  blk_simp
  rw [after0_7]; frame_out
  exact point0 V c t y

end Cert.KernelIdeal.Value
end
-- ==== Proof.Down.lean ====
module

public import proofs.«01_k».proof.Proof.Spec
public import proofs.«01_k».proof.Proof.Gen.KernelIdeal.Frame
public import Idealize.ShloMosaic.Lib.Pipeline.ValueKit

/-! The second kernel call leaves the projection down of its argument arrays in its result array. -/

@[expose] public section

set_option maxRecDepth 16384

noncomputable section

namespace Cert.KernelIdeal.Value

open Idealize.ShloMosaic Idealize.ShloMosaic.TcCoe Idealize.SL.Sem
open Cert.KernelIdeal Cert.KernelIdeal.Gen Cert.Proof.Spec

/-- What the body stores, read at an element of the block. -/
theorem down_pay_at (p : Vec Ideal S8192x256 .i8) (s : FVec Ideal S128x256 .bf16) (z : Vec Ideal S128x256 .i8)
    (h : FVec Ideal S512x16384 .bf16) (r : Fin 512) (n : Fin 256) :
    k1_pay1 (F := Ideal) p s z h (ix2 r n)
      = (∑ k : Fin 16384, h (ix2 r k) * weight (p (ix2 ⟨k / 2, by omega⟩ n)) (z (ix2 ⟨k / 128, by omega⟩ n)) (s (ix2 ⟨k / 128, by omega⟩ n)) k : EReal) := by
  pointwise [k1_pay1]
  simp only [kernel_weight]

/-- Each window's block index at a grid point: row block `t / 32`, column block `t % 32`. -/
theorem idx1 : ∀ t : Fin cfg1.N, win1_0.index t = ![t.val / 32, 0] ∧ win1_1.index t = ![0, t.val % 32]
    ∧ win1_2.index t = ![0, t.val % 32] ∧ win1_3.index t = ![0, t.val % 32]
    ∧ win1_4.index t = ![t.val / 32, t.val % 32] ∧ t.val / 32 < 8 :=
  (by decide +kernel : ∀ t : Fin grid1.N, _)

variable (V : (c : Dev nD) → (b : Ref sig .tc) → Buf (Elt Ideal) ((c : Thread nD τ).loc b))

/-- What the body stores at element `y` of point `t`'s block is the projection at the element's place. -/
theorem point1 (c : Dev nD) (t : Fin cfg1.N) (y : S512x256.Idx) :
    k1_pay1 (F := Ideal) (iblk1 V c 1 t) (iblk1 V c 2 t) (iblk1 V c 3 t) (iblk1 V c 0 t) y
      = down (V c main_v2) (V c main_arg4) (V c main_arg5) (V c main_arg6) (((cfg1.win 4).blk t).view.emb y) := by
  obtain ⟨r, n, rfl⟩ : ∃ (r : Fin 512) (n : Fin 256), y = ix2 r n := ⟨y 0, y 1, eq_ix2 y⟩
  refine (down_pay_at _ _ _ _ r n).trans ?_
  obtain ⟨-, -, -, -, h4, hlt⟩ := idx1 t
  have e0 : ((((cfg1.win 4).blk t).view.emb (ix2 r n)) 0 : ℕ) = t.val / 32 * 512 + r := by blk_simp [h4]
  have e1 : ((((cfg1.win 4).blk t).view.emb (ix2 r n)) 1 : ℕ) = t.val % 32 * 256 + n := by blk_simp [h4]
  have key : ∀ (R : Fin 4096) (N : Fin 8192), R.val = t.val / 32 * 512 + r → N.val = t.val % 32 * 256 + n →
      (∑ k : Fin 16384, (show EReal from iblk1 V c 0 t (ix2 r k)) * weight (iblk1 V c 1 t (ix2 ⟨k / 2, by omega⟩ n))
        (iblk1 V c 3 t (ix2 ⟨k / 128, by omega⟩ n)) (iblk1 V c 2 t (ix2 ⟨k / 128, by omega⟩ n)) k : EReal)
      = ∑ k : Fin 16384, (show EReal from V c main_v2 (ix2 R k)) * weight (V c main_arg4 (ix2 ⟨k / 2, by omega⟩ N))
        (V c main_arg6 (ix2 ⟨k / 128, by omega⟩ N)) (V c main_arg5 (ix2 ⟨k / 128, by omega⟩ N)) k := by
    intro R N hR hN
    refine Finset.sum_congr rfl fun k _ => ?_
    have hx : iblk1 V c 0 t (ix2 r k) = V c main_v2 (ix2 R k) := by blk_ext [iblk1, idx1 t, hR]
    have hp : iblk1 V c 1 t (ix2 ⟨k / 2, by omega⟩ n) = V c main_arg4 (ix2 ⟨k / 2, by omega⟩ N) := by blk_ext [iblk1, idx1 t, hN]
    have hs : iblk1 V c 2 t (ix2 ⟨k / 128, by omega⟩ n) = V c main_arg5 (ix2 ⟨k / 128, by omega⟩ N) := by blk_ext [iblk1, idx1 t, hN]
    have hz : iblk1 V c 3 t (ix2 ⟨k / 128, by omega⟩ n) = V c main_arg6 (ix2 ⟨k / 128, by omega⟩ N) := by blk_ext [iblk1, idx1 t, hN]
    exact congr (congrArg HMul.hMul hx) (congrFun (congr (congr (congrArg weight hp) hz) hs) _)
  exact key _ _ e0 e1

/-- The result array after the second call. -/
theorem final1 (c : Dev nD) : (dat1 V c).arrAt 4 cfg1.N
    = down (V c main_v2) (V c main_arg4) (V c main_arg5) (V c main_arg6) := by
  refine (dat1 V c).arrAt_eq_of_covers 4 _ (by decide +kernel) fun t _ y => ?_
  blk_simp
  rw [after1_4]; frame_out
  exact point1 V c t y

end Cert.KernelIdeal.Value
end
-- ==== Proof.KernelValue.lean ====
module

public import proofs.«01_k».proof.Proof.KRun
public import proofs.«01_k».proof.Proof.GateUp
public import proofs.«01_k».proof.Proof.Down
public import Idealize.ShloMosaic.Lib.Claim

/-! The kernel's result array over its arguments: the two calls and the host operations around them put together. -/

@[expose] public section

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.Proof.Spec

variable (m : (ℓ : Loc nD τ sig) → Buf (Elt Ideal) ℓ) (ρ : Dev nD → PrngReg)

/-- The activations as the first call reads them: reshaped, then converted. -/
theorem W1_acts (c : Dev nD) : W1 m ρ c (Proc.devRef .tc main_v1)
    = (truncf .bf16 (shapeCast S4096x8192 (m ((c : Thread nD τ).loc main_arg0)) shapeCasts_S1x4096x8192_S4096x8192) bitsLt_bf16_f32
        : FVec Ideal S4096x8192 .bf16) := by
  after_results <;> rfl

/-- The hidden array as the second call reads it. -/
theorem W2_hidden (c : Dev nD) : W2 m ρ c (Proc.devRef .tc main_v2)
    = hid (W1 m ρ c (Proc.devRef .tc main_v1)) (m ((c : Thread nD τ).loc main_arg1)) (m ((c : Thread nD τ).loc main_arg2))
        (m ((c : Thread nD τ).loc main_arg3)) := by
  refine (W2_arr m ρ c 7).trans ((final0 (V1 m ρ) c).trans ?_)
  dsimp only [V1]
  rw [W1_args m ρ c main_arg1 (by decide), W1_args m ρ c main_arg2 (by decide), W1_args m ρ c main_arg3 (by decide)]

/-- The projection down, before the last reshape. -/
theorem W3_down (c : Dev nD) : W3 m ρ c (Proc.devRef .tc main_v3)
    = down (W2 m ρ c (Proc.devRef .tc main_v2)) (m ((c : Thread nD τ).loc main_arg4)) (m ((c : Thread nD τ).loc main_arg5))
        (m ((c : Thread nD τ).loc main_arg6)) := by
  refine (W3_arr m ρ c 4).trans ((final1 (V2 m ρ) c).trans ?_)
  dsimp only [V2]
  rw [W2_args m ρ c main_arg4 (by decide), W2_args m ρ c main_arg5 (by decide), W2_args m ρ c main_arg6 (by decide)]

/-- The result array is the projection down with a leading axis of one. -/
theorem W4_result (c : Dev nD) : W4 m ρ c (Proc.devRef .tc main_v4)
    = shapeCast S1x4096x8192 (W3 m ρ c (Proc.devRef .tc main_v3)) shapeCasts_S4096x8192_S1x4096x8192 := by
  after_results <;> rfl

/-- The kernel's result over its arguments. -/
def result (X : FVec Ideal S1x4096x8192 .f32) (P : Vec Ideal S4096x32768 .i8) (S : FVec Ideal S64x32768 .bf16)
    (Z : Vec Ideal S64x32768 .i8) (P' : Vec Ideal S8192x8192 .i8) (S' : FVec Ideal S128x8192 .bf16)
    (Z' : Vec Ideal S128x8192 .i8) : FVec Ideal S1x4096x8192 .f32 :=
  shapeCast S1x4096x8192 (down (hid (truncf .bf16 (shapeCast S4096x8192 X shapeCasts_S1x4096x8192_S4096x8192) bitsLt_bf16_f32) P S Z) P' S' Z')
    shapeCasts_S4096x8192_S1x4096x8192

/-- What the run leaves in the result array. -/
theorem kernel_result (c : Dev nD) : W4 m ρ c (Proc.devRef .tc main_v4)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W4_result, W3_down, W2_hidden, W1_acts]
  rfl

/-- The result at an element: row `i 1` and column `i 2` of the projection. -/
theorem result_at (X : FVec Ideal S1x4096x8192 .f32) (P : Vec Ideal S4096x32768 .i8) (S : FVec Ideal S64x32768 .bf16)
    (Z : Vec Ideal S64x32768 .i8) (P' : Vec Ideal S8192x8192 .i8) (S' : FVec Ideal S128x8192 .bf16)
    (Z' : Vec Ideal S128x8192 .i8) (i : S1x4096x8192.Idx) :
    result X P S Z P' S' Z' i = down (hid (fun j => X (ix3 0 (j 0) (j 1))) P S Z) P' S' Z' (ix2 (i 1) (i 2)) := by
  have e : (truncf .bf16 (shapeCast S4096x8192 X shapeCasts_S1x4096x8192_S4096x8192) bitsLt_bf16_f32 : FVec Ideal S4096x8192 .bf16)
      = fun j => X (ix3 0 (j 0) (j 1)) := by
    funext j
    pointwise
  unfold result
  rw [e]
  pointwise

/-- The run with the result over the arguments. -/
theorem run : θ_run defs (onTc (τ := τ) (main (F := Ideal))) ⟨m, fun _ => 0, ρ⟩ (fun r => ∀ c : Dev nD,
      r.2.mem ((c.tc : Thread nD τ).loc main_v4)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1.trans (kernel_result m ρ c), (h.1 c).2⟩) (kernel_run m ρ)

end Cert.KernelIdeal.Value
end
-- ==== Proof.RefValue.lean ====
module

public import proofs.«01_k».proof.Proof.Spec
public import proofs.«01_k».proof.Proof.Gen.ReferenceIdeal.Run

/-! The reference's result is the projection down of the hidden activations. -/

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Proof.Spec

/-- The reference's dequantised gate and up weights. -/
def fusedWeights (P : Vec Ideal S4096x32768 .i8) (S : FVec Ideal S64x32768 .bf16) (Z : Vec Ideal S64x32768 .i8) :
    FVec Ideal S8192x32768 .bf16 :=
  shapeCast S8192x32768 (mulf (subf (sitofp .bf16 (shapeCast S64x128x32768 (shapeCast S8192x32768 (concatenate S4096x2x32768 1 [⟨S4096x1x32768, (broadcastInDim S4096x1x32768 ![0, 2] bcast_S4096x32768_S4096x1x32768_0_2 (andi (extui 32 P natLt_8_32) (broadcastInDim S4096x32768 ![] bcast_S_S4096x32768 (constantI S_ 32 15#32))))⟩, ⟨S4096x1x32768, (broadcastInDim S4096x1x32768 ![0, 2] bcast_S4096x32768_S4096x1x32768_0_2 (Host.shrsi (extui 32 P natLt_8_32) (broadcastInDim S4096x32768 ![] bcast_S_S4096x32768 (constantI S_ 32 4#32))))⟩] concatenates_S4096x1x32768_S4096x1x32768_S4096x2x32768_d1) shapeCasts_S4096x2x32768_S8192x32768) shapeCasts_S8192x32768_S64x128x32768)) (broadcastInDim S64x128x32768 ![0, 1, 2] bcast_S64x1x32768_S64x128x32768_0_1_2 (broadcastInDim S64x1x32768 ![0, 2] bcast_S64x32768_S64x1x32768_0_2 (sitofp .bf16 (extui 32 Z natLt_8_32))))) (broadcastInDim S64x128x32768 ![0, 1, 2] bcast_S64x1x32768_S64x128x32768_0_1_2 (broadcastInDim S64x1x32768 ![0, 2] bcast_S64x32768_S64x1x32768_0_2 S))) shapeCasts_S64x128x32768_S8192x32768

/-- The reference's dequantised weights of the projection down. -/
def downWeights (P' : Vec Ideal S8192x8192 .i8) (S' : FVec Ideal S128x8192 .bf16) (Z' : Vec Ideal S128x8192 .i8) :
    FVec Ideal S16384x8192 .bf16 :=
  shapeCast S16384x8192 (mulf (subf (sitofp .bf16 (shapeCast S128x128x8192 (shapeCast S16384x8192 (concatenate S8192x2x8192 1 [⟨S8192x1x8192, (broadcastInDim S8192x1x8192 ![0, 2] bcast_S8192x8192_S8192x1x8192_0_2 (andi (extui 32 P' natLt_8_32) (broadcastInDim S8192x8192 ![] bcast_S_S8192x8192 (constantI S_ 32 15#32))))⟩, ⟨S8192x1x8192, (broadcastInDim S8192x1x8192 ![0, 2] bcast_S8192x8192_S8192x1x8192_0_2 (Host.shrsi (extui 32 P' natLt_8_32) (broadcastInDim S8192x8192 ![] bcast_S_S8192x8192 (constantI S_ 32 4#32))))⟩] concatenates_S8192x1x8192_S8192x1x8192_S8192x2x8192_d1) shapeCasts_S8192x2x8192_S16384x8192) shapeCasts_S16384x8192_S128x128x8192)) (broadcastInDim S128x128x8192 ![0, 1, 2] bcast_S128x1x8192_S128x128x8192_0_1_2 (broadcastInDim S128x1x8192 ![0, 2] bcast_S128x8192_S128x1x8192_0_2 (sitofp .bf16 (extui 32 Z' natLt_8_32))))) (broadcastInDim S128x128x8192 ![0, 1, 2] bcast_S128x1x8192_S128x128x8192_0_1_2 (broadcastInDim S128x1x8192 ![0, 2] bcast_S128x8192_S128x1x8192_0_2 S'))) shapeCasts_S128x128x8192_S16384x8192

/-- The reference's fused product, gate and up columns together. -/
def fusedTerm (X : FVec Ideal S1x4096x8192 .f32) (P : Vec Ideal S4096x32768 .i8) (S : FVec Ideal S64x32768 .bf16)
    (Z : Vec Ideal S64x32768 .i8) : FVec Ideal S1x4096x32768 .f32 :=
  Host.dotGeneral dot_S1x4096x8192_S8192x32768_S1x4096x32768_2_0_01_1_n_n none (truncf .bf16 X bitsLt_bf16_f32) (fusedWeights P S Z)

/-- The reference's result over variables. -/
def resTerm (X : FVec Ideal S1x4096x8192 .f32) (P : Vec Ideal S4096x32768 .i8) (S : FVec Ideal S64x32768 .bf16)
    (Z : Vec Ideal S64x32768 .i8) (P' : Vec Ideal S8192x8192 .i8) (S' : FVec Ideal S128x8192 .bf16)
    (Z' : Vec Ideal S128x8192 .i8) : FVec Ideal S1x4096x8192 .f32 :=
  Host.dotGeneral dot_S1x4096x16384_S16384x8192_S1x4096x8192_2_0_01_1_n_n none (truncf .bf16 (mulf (mulf (extractStridedSlice S1x4096x16384 ![0, 0, 0] (fusedTerm X P S Z) slices_S1x4096x32768_S1x4096x16384_0_0_0) (Host.divf (broadcastInDim S1x4096x16384 ![] bcast_S_S1x4096x16384 (constant S_ .f32 0x3F800000#32)) (addf (broadcastInDim S1x4096x16384 ![] bcast_S_S1x4096x16384 (constant S_ .f32 0x3F800000#32)) (Host.exp (Host.negf (extractStridedSlice S1x4096x16384 ![0, 0, 0] (fusedTerm X P S Z) slices_S1x4096x32768_S1x4096x16384_0_0_0)))))) (extractStridedSlice S1x4096x16384 ![0, 0, 16384] (fusedTerm X P S Z) slices_S1x4096x32768_S1x4096x16384_0_0_16384)) bitsLt_bf16_f32) (downWeights P' S' Z')

/-- The activations without their leading axis of one. -/
def acts (X : FVec Ideal S1x4096x8192 .f32) : FVec Ideal ⟨2, ![4096, 8192]⟩ .bf16 := fun i => X (ix3 0 (i 0) (i 1))

/-- A byte's row as the reference splits it, by group and then by pair, is half the row. -/
theorem half_row (k : ℕ) : k / 128 * 64 + k % 128 / 2 = k / 2 := by omega

/-- A gate or up weight is the dequantised one. -/
theorem fusedWeights_at (P : Vec Ideal S4096x32768 .i8) (S : FVec Ideal S64x32768 .bf16) (Z : Vec Ideal S64x32768 .i8)
    (k : Fin 8192) (f : Fin 32768) : fusedWeights P S Z (ix2 k f)
      = weight (P (ix2 ⟨k / 2, by omega⟩ f)) (Z (ix2 ⟨k / 128, by omega⟩ f)) (S (ix2 ⟨k / 128, by omega⟩ f)) k := by
  rw [← ref_weight]
  pointwise [fusedWeights]
  simp only [half_row, dite_eq_ite]
  split <;> rfl

/-- A weight of the projection down is the dequantised one. -/
theorem downWeights_at (P : Vec Ideal S8192x8192 .i8) (S : FVec Ideal S128x8192 .bf16) (Z : Vec Ideal S128x8192 .i8)
    (k : Fin 16384) (n : Fin 8192) : downWeights P S Z (ix2 k n)
      = weight (P (ix2 ⟨k / 2, by omega⟩ n)) (Z (ix2 ⟨k / 128, by omega⟩ n)) (S (ix2 ⟨k / 128, by omega⟩ n)) k := by
  rw [← ref_weight]
  pointwise [downWeights]
  simp only [half_row, dite_eq_ite]
  split <;> rfl

/-- The fused product at an element. -/
theorem fusedTerm_at (X : FVec Ideal S1x4096x8192 .f32) (P : Vec Ideal S4096x32768 .i8) (S : FVec Ideal S64x32768 .bf16)
    (Z : Vec Ideal S64x32768 .i8) (r : Fin 4096) (f : Fin 32768) :
    fusedTerm X P S Z (ix3 0 r f) = proj (acts X) P S Z r f := by
  pointwise [fusedTerm]
  exact Finset.sum_congr rfl fun k _ => congrArg (X (ix3 0 r k) * ·) (fusedWeights_at P S Z k f)

/-- The result at an element. -/
theorem resTerm_at (X : FVec Ideal S1x4096x8192 .f32) (P : Vec Ideal S4096x32768 .i8) (S : FVec Ideal S64x32768 .bf16)
    (Z : Vec Ideal S64x32768 .i8) (P' : Vec Ideal S8192x8192 .i8) (S' : FVec Ideal S128x8192 .bf16)
    (Z' : Vec Ideal S128x8192 .i8) (r : Fin 4096) (n : Fin 8192) :
    resTerm X P S Z P' S' Z' (ix3 0 r n) = down (hid (acts X) P S Z) P' S' Z' (ix2 r n) := by
  pointwise [resTerm]
  refine Finset.sum_congr rfl fun k _ => Ideal.mul_congr ?_ (downWeights_at P' S' Z' k n)
  have hg := fusedTerm_at X P S Z r ⟨k, by omega⟩
  have hu := fusedTerm_at X P S Z r ⟨16384 + k, by omega⟩
  rw [hg, hu]
  rfl

/-- The result as an array. -/
theorem resTerm_eq (X : FVec Ideal S1x4096x8192 .f32) (P : Vec Ideal S4096x32768 .i8) (S : FVec Ideal S64x32768 .bf16)
    (Z : Vec Ideal S64x32768 .i8) (P' : Vec Ideal S8192x8192 .i8) (S' : FVec Ideal S128x8192 .bf16)
    (Z' : Vec Ideal S128x8192 .i8) (i : S1x4096x8192.Idx) :
    resTerm X P S Z P' S' Z' i = down (hid (acts X) P S Z) P' S' Z' (ix2 (i 1) (i 2)) := by
  obtain ⟨a, r, n, rfl⟩ : ∃ (a : Fin 1) (r : Fin 4096) (n : Fin 8192), i = ix3 a r n := ⟨i 0, i 1, i 2, eq_ix3 i⟩
  obtain rfl : a = 0 := Subsingleton.elim _ _
  exact resTerm_at X P S Z P' S' Z' r n

variable (m : (ℓ : Loc nD τ sig) → Buf (Elt Ideal) ℓ)

/-- What the reference's run leaves is that term of its arguments. -/
theorem res_eq (c : Dev nD) : res_main_v47 m c
    = resTerm (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

end Cert.ReferenceIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were and every counter at zero: it declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The reference's result is the kernel's, over the same arguments. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6)) :
    Cert.ReferenceIdeal.Value.res_main_v47 m' c
      = Cert.KernelIdeal.Value.result (m (c.tc.loc Cert.KernelIdeal.main_arg0)) (m (c.tc.loc Cert.KernelIdeal.main_arg1))
          (m (c.tc.loc Cert.KernelIdeal.main_arg2)) (m (c.tc.loc Cert.KernelIdeal.main_arg3)) (m (c.tc.loc Cert.KernelIdeal.main_arg4))
          (m (c.tc.loc Cert.KernelIdeal.main_arg5)) (m (c.tc.loc Cert.KernelIdeal.main_arg6)) := by
  rw [Cert.ReferenceIdeal.Value.res_eq, h0, h1, h2, h3, h4, h5, h6]
  funext i
  exact (Cert.ReferenceIdeal.Value.resTerm_eq _ _ _ _ _ _ _ i).trans (Cert.KernelIdeal.Value.result_at _ _ _ _ _ _ _ i).symm

/-- Over the extended reals the kernel and the reference end with equal results. -/
theorem algebraic : Cert.algebraic_KernelIdeal_ReferenceIdeal (hKernelIdeal := Cert.KernelIdeal.Gen.facts)
    (hReferenceIdeal := Cert.ReferenceIdeal.Gen.facts) := fun m g m' g' _ hagree =>
  ⟨_, Cert.KernelIdeal.Value.run m g,
    (θ_run _ _ _).mono (fun r h c => ⟨(h c).1.trans (results_equal m m' c (hagree c).1 (hagree c).2.1 (hagree c).2.2.1
        (hagree c).2.2.2.1 (hagree c).2.2.2.2.1 (hagree c).2.2.2.2.2.1 (hagree c).2.2.2.2.2.2), (h c).2⟩)
      (Cert.ReferenceIdeal.Value.run m' g')⟩

/-- Every claim of the certificate. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
